-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x4096 : Shape := ⟨3, ![32, 1, 4096]⟩
abbrev S28672x4096 : Shape := ⟨2, ![28672, 4096]⟩
abbrev S28672 : Shape := ⟨1, ![28672]⟩
abbrev S32x4096 : Shape := ⟨2, ![32, 4096]⟩
abbrev S1x28672 : Shape := ⟨2, ![1, 28672]⟩
abbrev S32x28672 : Shape := ⟨2, ![32, 28672]⟩
abbrev S1024x4096 : Shape := ⟨2, ![1024, 4096]⟩
abbrev S1x1024 : Shape := ⟨2, ![1, 1024]⟩
abbrev S32x1024 : Shape := ⟨2, ![32, 1024]⟩
abbrev S4096x1024 : Shape := ⟨2, ![4096, 1024]⟩
abbrev S32x1x28672 : Shape := ⟨3, ![32, 1, 28672]⟩

abbrev nBuf : Space → Nat
  | .hbm => 9
  | .vmem => 9
  | .smem => 0
  | _ => 0

abbrev bufTy : (tb : Table) → Fin (tcTables nBuf tb) → BufTy
  | .hbm, ⟨0, _⟩ => ⟨S32x1x4096, .bf16⟩
  | .hbm, ⟨1, _⟩ => ⟨S28672x4096, .i8⟩
  | .hbm, ⟨2, _⟩ => ⟨S28672, .f32⟩
  | .hbm, ⟨3, _⟩ => ⟨S28672, .i8⟩
  | .hbm, ⟨4, _⟩ => ⟨S32x4096, .bf16⟩
  | .hbm, ⟨5, _⟩ => ⟨S1x28672, .f32⟩
  | .hbm, ⟨6, _⟩ => ⟨S1x28672, .i8⟩
  | .hbm, ⟨7, _⟩ => ⟨S32x28672, .bf16⟩
  | .hbm, ⟨8, _⟩ => ⟨S32x1x28672, .bf16⟩
  | .local _ .vmem, ⟨0, _⟩ => ⟨S32x4096, .bf16⟩
  | .local _ .vmem, ⟨1, _⟩ => ⟨S1024x4096, .i8⟩
  | .local _ .vmem, ⟨2, _⟩ => ⟨S1024x4096, .i8⟩
  | .local _ .vmem, ⟨3, _⟩ => ⟨S1x1024, .f32⟩
  | .local _ .vmem, ⟨4, _⟩ => ⟨S1x1024, .f32⟩
  | .local _ .vmem, ⟨5, _⟩ => ⟨S1x1024, .i8⟩
  | .local _ .vmem, ⟨6, _⟩ => ⟨S1x1024, .i8⟩
  | .local _ .vmem, ⟨7, _⟩ => ⟨S32x1024, .bf16⟩
  | .local _ .vmem, ⟨8, _⟩ => ⟨S32x1024, .bf16⟩
  | _, _ => ⟨S32x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32x1x4096 : Shape := ⟨3, ![32, 1, 4096]⟩
abbrev S28672x4096 : Shape := ⟨2, ![28672, 4096]⟩
abbrev S28672 : Shape := ⟨1, ![28672]⟩
abbrev S28672x1 : Shape := ⟨2, ![28672, 1]⟩
abbrev S32x1x28672 : Shape := ⟨3, ![32, 1, 28672]⟩
abbrev S1x1x28672 : Shape := ⟨3, ![1, 1, 28672]⟩

abbrev nBuf : Space → Nat
  | .hbm => 16
  | .vmem => 0
  | .smem => 0
  | _ => 0

abbrev bufTy : (tb : Table) → Fin (tcTables nBuf tb) → BufTy
  | .hbm, ⟨0, _⟩ => ⟨S32x1x4096, .bf16⟩
  | .hbm, ⟨1, _⟩ => ⟨S28672x4096, .i8⟩
  | .hbm, ⟨2, _⟩ => ⟨S28672, .f32⟩
  | .hbm, ⟨3, _⟩ => ⟨S28672, .i8⟩
  | .hbm, ⟨4, _⟩ => ⟨S28672x4096, .i32⟩
  | .hbm, ⟨5, _⟩ => ⟨S28672x4096, .bf16⟩
  | .hbm, ⟨6, _⟩ => ⟨S28672, .i32⟩
  | .hbm, ⟨7, _⟩ => ⟨S28672, .bf16⟩
  | .hbm, ⟨8, _⟩ => ⟨S28672x1, .bf16⟩
  | .hbm, ⟨9, _⟩ => ⟨S28672x4096, .bf16⟩
  | .hbm, ⟨10, _⟩ => ⟨S28672x4096, .bf16⟩
  | .hbm, ⟨11, _⟩ => ⟨S32x1x28672, .f32⟩
  | .hbm, ⟨12, _⟩ => ⟨S1x1x28672, .f32⟩
  | .hbm, ⟨13, _⟩ => ⟨S32x1x28672, .f32⟩
  | .hbm, ⟨14, _⟩ => ⟨S32x1x28672, .f32⟩
  | .hbm, ⟨15, _⟩ => ⟨S32x1x28672, .bf16⟩
  | _, _ => ⟨S32x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.Block.lean ====
/-
  What one grid point of the kernel computes from the blocks it loads, read at an element.
-/
module

public import proofs.«01_k».proof.Proof.Gen.KernelIdeal.Skeleton
public import Idealize.ShloMosaic.Lib.Pointwise

@[expose] public section

noncomputable section

namespace Cert.Proof.Block

open Idealize.ShloMosaic Cert.KernelIdeal Cert.KernelIdeal.Gen
open scoped BigOperators

/-- Element (b, o) of the block that the body stores: row `b` of the activations times row `o` of the block of weight codes,
    each code less that row's zero point, summed over the 4096 inputs and multiplied by the row's scale. The transpose of the
    codes, the casts to bf16 and the zero accumulator leave no trace over the extended reals. -/
theorem pay_apply (w : Vec Ideal S1024x4096 .i8) (z : Vec Ideal S1x1024 .i8) (x : Vec Ideal S32x4096 .bf16)
    (s : Vec Ideal S1x1024 .f32) (j : S32x1024.Idx) :
    k0_pay1 (F := Ideal) w z x s j
      = (∑ k : Fin 4096, x (ix2 (j 0) k) * ((((w (ix2 (j 1) k)).toInt : ℝ) : EReal) - (((z (ix2 0 (j 1))).toInt : ℝ) : EReal)))
        * s (ix2 0 (j 1)) := by
  unfold k0_pay1
  pointwise
  rfl

end Cert.Proof.Block

end
-- ==== Proof.Spec.lean ====
/-
  What the layer computes, as one formula over the extended reals: the common value of the kernel and of the reference.
-/
module

public import Idealize.ShloMosaic.PureOps.Ideal
public import Idealize.ShloMosaic.Lib.Pointwise

@[expose] public section

noncomputable section

namespace Cert.Proof

open Idealize.ShloMosaic
open scoped BigOperators

/-- The output for activation row `b` and output channel `o`: the row's product with the channel's weight codes, each less the
    channel's zero point, times the channel's scale. -/
def linear (x : Vec Ideal ⟨3, ![32, 1, 4096]⟩ .bf16) (w : Vec Ideal ⟨2, ![28672, 4096]⟩ .i8) (s : Vec Ideal ⟨1, ![28672]⟩ .f32)
    (z : Vec Ideal ⟨1, ![28672]⟩ .i8) (b : Fin 32) (o : Fin 28672) : EReal :=
  (∑ k : Fin 4096, x (ix3 b 0 k) * ((((w (ix2 o k)).toInt : ℝ) : EReal) - (((z (ix1 o)).toInt : ℝ) : EReal))) * s (ix1 o)

end Cert.Proof

end
-- ==== Proof.KernelValue.lean ====
/-
  What the kernel's program computes: the array the grid leaves, assembled from the blocks of its 28 points, and the
  program's run with the last reshape read.
-/
module

public import proofs.«01_k».proof.Proof.Gen.KernelIdeal.Frame
public import proofs.«01_k».proof.Proof.Block
public import proofs.«01_k».proof.Proof.Spec
public import Idealize.ShloMosaic.Lib.Pipeline.Value
public import Idealize.ShloMosaic.Lib.Claim

@[expose] public section

noncomputable section

namespace Cert.Proof.KernelValue

open Idealize.ShloMosaic Idealize.ShloMosaic.TcCoe Idealize.SL.Sem Cert.KernelIdeal Cert.KernelIdeal.Gen
open Idealize.ShloMosaic.Pipeline (Dat Cfg Window)

variable (m : (ℓ : Loc nD τ sig) → Buf (Elt Ideal) ℓ) (ρ : Dev nD → PrngReg)

/-- The layer of device `c`'s four arguments. -/
abbrev lin (c : Dev nD) (b : Fin 32) (o : Fin 28672) : EReal :=
  linear (m ((c : Thread nD τ).loc main_arg0)) (m ((c : Thread nD τ).loc main_arg1)) (m ((c : Thread nD τ).loc main_arg2))
    (m ((c : Thread nD τ).loc main_arg3)) b o

/-- The [32, 28672] array that the grid is shown to leave. -/
def G (c : Dev nD) : Buf (Elt Ideal) ((c : Thread nD τ).loc main_v3) := fun i : S32x28672.Idx => lin m c (i 0) (i 1)

/-- Which block each window is on at point `t`: the whole activations, and block `t` along the output channels. -/
theorem index_facts : ∀ t : Fin cfg0.N,
    (win0_0.index t 0 = 0 ∧ win0_0.index t 1 = 0) ∧ (win0_1.index t 0 = t.val ∧ win0_1.index t 1 = 0)
    ∧ (win0_2.index t 0 = 0 ∧ win0_2.index t 1 = t.val) ∧ (win0_3.index t 0 = 0 ∧ win0_3.index t 1 = t.val)
    ∧ (win0_4.index t 0 = 0 ∧ win0_4.index t 1 = t.val) :=
  (by decide +kernel : ∀ t : Fin grid0.N,
    (win0_0.index t 0 = 0 ∧ win0_0.index t 1 = 0) ∧ (win0_1.index t 0 = t.val ∧ win0_1.index t 1 = 0)
    ∧ (win0_2.index t 0 = 0 ∧ win0_2.index t 1 = t.val) ∧ (win0_3.index t 0 = 0 ∧ win0_3.index t 1 = t.val)
    ∧ (win0_4.index t 0 = 0 ∧ win0_4.index t 1 = t.val))

/-- Output channel `y` of block `t`, as a channel of the whole layer. -/
def chan (t : Fin cfg0.N) (y : Fin 1024) : Fin 28672 :=
  ⟨t.val * 1024 + y.val, by have : t.val < 28 := t.isLt; omega⟩

/-- Dropping the unit axis of the activations moves no element. -/
theorem cast_x (x : Vec Ideal S32x1x4096 .bf16) (b : Fin 32) (k : Fin 4096) :
    shapeCast S32x4096 x Facts₀.shapeCasts_S32x1x4096_S32x4096 (ix2 b k) = x (ix3 b 0 k) := by
  pointwise

/-- A vector seen as one row keeps its entries. -/
theorem cast_row {e : EltTy} (v : Vec Ideal S28672 e) (o : Fin 28672) :
    shapeCast S1x28672 v Facts₀.shapeCasts_S28672_S1x28672 (ix2 0 o) = v (ix1 o) := by
  pointwise

/-- Putting a unit axis into the result moves no element. -/
theorem cast_out (y : Vec Ideal S32x28672 .bf16) (i : S32x1x28672.Idx) :
    shapeCast S32x1x28672 y Facts₀.shapeCasts_S32x28672_S32x1x28672 i = y (ix2 (i 0) (i 2)) := by
  pointwise

/-- The region finds the activations without their unit axis in its first operand. -/
theorem V_main_v0 (c : Dev nD) :
    V m c main_v0 = shapeCast S32x4096 (m ((c : Thread nD τ).loc main_arg0)) Facts₀.shapeCasts_S32x1x4096_S32x4096 := by
  show StableHlo.after hostOps0 _ _ = _
  after_results
  rfl

/-- It finds the scales as one row in its third operand. -/
theorem V_main_v1 (c : Dev nD) :
    V m c main_v1 = shapeCast S1x28672 (m ((c : Thread nD τ).loc main_arg2)) Facts₀.shapeCasts_S28672_S1x28672 := by
  show StableHlo.after hostOps0 _ _ = _
  after_results
  rfl

/-- It finds the zero points as one row in its fourth operand. -/
theorem V_main_v2 (c : Dev nD) :
    V m c main_v2 = shapeCast S1x28672 (m ((c : Thread nD τ).loc main_arg3)) Facts₀.shapeCasts_S28672_S1x28672 := by
  show StableHlo.after hostOps0 _ _ = _
  after_results
  rfl

/-- The activations' block is the activations, without their unit axis. -/
theorem iblk_x (c : Dev nD) (t : Fin cfg0.N) (b : Fin 32) (k : Fin 4096) :
    iblk m c 0 t (ix2 b k : S32x4096.Idx) = m ((c : Thread nD τ).loc main_arg0) (ix3 b 0 k : S32x1x4096.Idx) := by
  have he : ((cfg0.win 0).blk t).view.emb (ix2 b k : S32x4096.Idx) = (ix2 b k : S32x4096.Idx) :=
    Shape.idx_ext₂ ((win0_0.rect_emb_val_of_index_zero t 0 (index_facts t).1.1 _))
      ((win0_0.rect_emb_val_of_index_zero t 1 (index_facts t).1.2 _))
  unfold iblk
  show V m c main_v0 (((cfg0.win 0).blk t).view.emb (ix2 b k : S32x4096.Idx)) = _
  rw [he, V_main_v0]
  exact cast_x _ b k

/-- Row `o` of the weights' block is row `chan t o` of the weights. -/
theorem iblk_w (c : Dev nD) (t : Fin cfg0.N) (o : Fin 1024) (k : Fin 4096) :
    iblk m c 1 t (ix2 o k : S1024x4096.Idx) = m ((c : Thread nD τ).loc main_arg1) (ix2 (chan t o) k : S28672x4096.Idx) := by
  have he : ((cfg0.win 1).blk t).view.emb (ix2 o k : S1024x4096.Idx) = (ix2 (chan t o) k : S28672x4096.Idx) :=
    Shape.idx_ext₂ ((win0_1.rect_emb_val t _ 0).trans (by rw [(index_facts t).2.1.1]; rfl))
      (win0_1.rect_emb_val_of_index_zero t 1 (index_facts t).2.1.2 _)
  unfold iblk
  show V m c main_arg1 (((cfg0.win 1).blk t).view.emb (ix2 o k : S1024x4096.Idx)) = _
  rw [he, V_main_arg1]

/-- Entry `o` of the scales' block is entry `chan t o` of the scales. -/
theorem iblk_s (c : Dev nD) (t : Fin cfg0.N) (o : Fin 1024) :
    iblk m c 2 t (ix2 0 o : S1x1024.Idx) = m ((c : Thread nD τ).loc main_arg2) (ix1 (chan t o) : S28672.Idx) := by
  have he : ((cfg0.win 2).blk t).view.emb (ix2 0 o : S1x1024.Idx) = (ix2 0 (chan t o) : S1x28672.Idx) :=
    Shape.idx_ext₂ (win0_2.rect_emb_val_of_index_zero t 0 (index_facts t).2.2.1.1 _)
      ((win0_2.rect_emb_val t _ 1).trans (by rw [(index_facts t).2.2.1.2]; rfl))
  unfold iblk
  show V m c main_v1 (((cfg0.win 2).blk t).view.emb (ix2 0 o : S1x1024.Idx)) = _
  rw [he, V_main_v1]
  exact cast_row _ (chan t o)

/-- Entry `o` of the zero points' block is entry `chan t o` of the zero points. -/
theorem iblk_z (c : Dev nD) (t : Fin cfg0.N) (o : Fin 1024) :
    iblk m c 3 t (ix2 0 o : S1x1024.Idx) = m ((c : Thread nD τ).loc main_arg3) (ix1 (chan t o) : S28672.Idx) := by
  have he : ((cfg0.win 3).blk t).view.emb (ix2 0 o : S1x1024.Idx) = (ix2 0 (chan t o) : S1x28672.Idx) :=
    Shape.idx_ext₂ (win0_3.rect_emb_val_of_index_zero t 0 (index_facts t).2.2.2.1.1 _)
      ((win0_3.rect_emb_val t _ 1).trans (by rw [(index_facts t).2.2.2.1.2]; rfl))
  unfold iblk
  show V m c main_v2 (((cfg0.win 3).blk t).view.emb (ix2 0 o : S1x1024.Idx)) = _
  rw [he, V_main_v2]
  exact cast_row _ (chan t o)

/-- Element (b, o) of the result's block `t` is element (b, chan t o) of the result. -/
theorem emb_out (t : Fin cfg0.N) (j : S32x1024.Idx) :
    ((cfg0.win 4).blk t).view.emb j = (ix2 (j 0) (chan t (j 1)) : S32x28672.Idx) :=
  Shape.idx_ext₂ (win0_4.rect_emb_val_of_index_zero t 0 (index_facts t).2.2.2.2.1 _)
    ((win0_4.rect_emb_val t _ 1).trans (by rw [(index_facts t).2.2.2.2.2]; rfl))

/-- The offsets of a load or store of a whole block are all zero. -/
theorem hz : (![0, 0] : Fin 2 → Nat) = fun _ => 0 := funext fun a => by fin_cases a <;> rfl

/-- The body's one store leaves its payload of the loaded blocks. -/
theorem out_eq (x0 : Vec Ideal S32x4096 .bf16) (x1 : Vec Ideal S1024x4096 .i8) (x2 : Vec Ideal S1x1024 .f32)
    (x3 : Vec Ideal S1x1024 .i8) : out0_4 x0 x1 x2 x3 = k0_pay1 x1 x3 x0 x2 := by
  unfold out0_4
  rw [View.canon_unit_zero hz, View.ld_unit_zero hz, View.ld_unit_zero hz, View.ld_unit_zero hz, View.ld_unit_zero hz]

/-- The payload at element (b, o) of block `t` is the layer at (b, chan t o). -/
theorem point_eq (c : Dev nD) (t : Fin cfg0.N) (j : S32x1024.Idx) :
    k0_pay1 (F := Ideal) (iblk m c 1 t) (iblk m c 3 t) (iblk m c 0 t) (iblk m c 2 t) j = lin m c (j 0) (chan t (j 1)) := by
  refine (Block.pay_apply _ _ _ _ j).trans ?_
  unfold lin linear
  refine congrArg₂ (· * ·) (Finset.sum_congr rfl fun k _ => ?_) (iblk_s m c t (j 1))
  exact congrArg₂ (· * ·) (iblk_x m c t (j 0) k) (congrArg₂ (· - ·)
    (congrArg (fun v : BitVec 8 => (((v.toInt : ℝ) : EReal))) (iblk_w m c t (j 1) k))
    (congrArg (fun v : BitVec 8 => (((v.toInt : ℝ) : EReal))) (iblk_z m c t (j 1))))

/-- What point `t` writes back is block `t` of `G`. -/
theorem flushed_eq (c : Dev nD) (t : Fin cfg0.N) :
    (dats m 0 c).flushed 4 t = (win0_4.blk t).view.read (Elt Ideal) (G m c) := by
  show (cfg0.win 4).cut (grid0.coords t) ((dats m 0 c).after 4 t) = _
  rw [after0_4, out_eq]
  funext j
  show k0_pay1 (F := Ideal) (iblk m c 1 t) (iblk m c 3 t) (iblk m c 0 t) (iblk m c 2 t) (j : S32x1024.Idx) = G m c (((cfg0.win 4).blk t).view.emb j)
  rw [emb_out]
  exact point_eq m c t j

/-- An element of the result is in block `t` exactly when its channel is one of the block's 1024. -/
theorem mem_blk (t : Fin cfg0.N) (i : S32x28672.Idx) (h : t.val * 1024 ≤ (i 1 : Nat) ∧ (i 1 : Nat) < t.val * 1024 + 1024) :
    i ∈ ((cfg0.win 4).blk t).view.set := by
  have e : ((cfg0.win 4).blk t).view.emb (ix2 (i 0) ⟨(i 1 : Nat) - t.val * 1024, by omega⟩ : S32x1024.Idx) = i := by
    rw [emb_out]
    refine Shape.idx_ext₂ rfl ?_
    show t.val * 1024 + ((i 1 : Nat) - t.val * 1024) = (i 1 : Nat)
    omega
  rw [← e]
  exact View.emb_mem_set _ _

/-- The 28 blocks cover the result. -/
theorem cover (i : S32x28672.Idx) :
    ∃ t : Fin cfg0.N, (cfg0.win 4).flush t = true ∧ i ∈ ((cfg0.win 4).blk t).view.set := by
  have h1 : (i 1 : Nat) < 28672 := (i 1).isLt
  have ht : (i 1 : Nat) / 1024 < cfg0.N := by show _ < 28; omega
  exact ⟨⟨(i 1 : Nat) / 1024, ht⟩, flush0_4 _, mem_blk _ i (by dsimp only; omega)⟩

/-- So the grid leaves `G` in the pallas_call's result array. -/
theorem final (c : Dev nD) : (dats m 0 c).arrAt 4 cfg0.N = G m c :=
  (dats m 0 c).arrAt_eq_of_cover 4 (G m c) (fun t _ => flushed_eq m c t) cover

/-- After the last reshape the program's result holds the layer with a unit axis between rows and channels. -/
theorem tail (c : Dev nD) :
    Pipeline.afterTail₀ cfgs (dats m) 0 (V0 m) [hostOps1] c main_v4 = fun i : S32x1x28672.Idx => lin m c (i 0) (i 2) := by
  have hw : Pipeline.withArrays (cfgs 0).spec c (V0 m c) (fun w => (dats m 0 c).arrAt w (cfgs 0).N) (Proc.devRef .tc main_v3) = G m c :=
    (Pipeline.withArrays_arr spec0 launch0.win.arr_inj c (V0 m c) (fun w => (dats m 0 c).arrAt w (cfgs 0).N) 4).trans (final m c)
  have hs : Pipeline.afterTail₀ cfgs (dats m) 0 (V0 m) [hostOps1] c main_v4
      = shapeCast S32x1x28672 (G m c) Facts₀.shapeCasts_S32x28672_S32x1x28672 := by
    unfold Pipeline.afterTail₀
    show StableHlo.after hostOps1 _ _ = _
    after_results
    rw [hw]
    rfl
  rw [hs]
  funext i
  exact cast_out (G m c) i

/-- The kernel's run over the extended reals: its result holds `linear` of the arguments, which end unchanged. -/
theorem run : θ_run (defs (F := Ideal)) (onTc (τ := τ) (main (F := Ideal))) ⟨m, fun _ => 0, ρ⟩ fun r => ∀ c : Dev nD,
      r.2.mem ((c.tc : Thread nD τ).loc main_v4) = (fun i : S32x1x28672.Idx => lin m c (i 0) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h.1 c).trans (tail m c), h.2 c⟩)
    (θ_run_and ((θ_run defs _ _).mono (fun _ h c => (h c).2 main_v4 (Pipeline.mem_restRefs_of main_v4 (by decide) (by decide)))
      (run_main m ρ)) (unchanged m ρ))

end Cert.Proof.KernelValue

end
-- ==== Proof.RefValue.lean ====
/-
  What the reference computes: its composed host operations read at an element are the formula of Spec.lean.
-/
module

public import proofs.«01_k».proof.Proof.Gen.ReferenceIdeal.Run
public import proofs.«01_k».proof.Proof.Spec

@[expose] public section

noncomputable section

namespace Cert.Proof.RefValue

open Idealize.ShloMosaic Idealize.ShloMosaic.TcCoe Idealize.SL.Sem Cert.ReferenceIdeal Cert.ReferenceIdeal.Gen
open scoped BigOperators

/-- An int8 code widened to int32 and then converted is the same extended real as the code itself. -/
theorem sitofp_signExtend (v : BitVec 8) :
    FloatOps.sitofp (F := Ideal) FTy.bf16 (BitVec.signExtend 32 v) = (((v.toInt : ℝ) : EReal)) := by
  show (((BitVec.signExtend 32 v).toInt : ℝ) : EReal) = _
  rw [BitVec.toInt_signExtend_of_le (by decide)]

/-- The reference's result array as a function of its arguments: element (b, 0, o) is `linear … b o`. -/
theorem ref_eq (x : Vec Ideal S32x1x4096 .bf16) (w : Vec Ideal S28672x4096 .i8) (s : Vec Ideal S28672 .f32)
    (z : Vec Ideal S28672 .i8) :
    (truncf .bf16 (mulf (Host.dotGeneral (F := Ideal) (φ₁ := .bf16) (φ₂ := .bf16) dot_S32x1x4096_S28672x4096_S32x1x28672_2_1_01_0_n_n none x (subf (sitofp .bf16 (extsi 32 w Facts₀.natLt_8_32)) (broadcastInDim S28672x4096 ![0, 1] Facts₀.bcast_S28672x1_S28672x4096_0_1 (broadcastInDim S28672x1 ![0] Facts₀.bcast_S28672_S28672x1_0 (sitofp .bf16 (extsi 32 z Facts₀.natLt_8_32)))))) (broadcastInDim S32x1x28672 ![0, 1, 2] Facts₀.bcast_S1x1x28672_S32x1x28672_0_1_2 (broadcastInDim S1x1x28672 ![2] Facts₀.bcast_S28672_S1x1x28672_2 s))) Facts₀.bitsLt_bf16_f32 : FVec Ideal S32x1x28672 .bf16)
      = fun i => linear x w s z (i 0) (i 2) := by
  funext i
  have h1 : i 1 = (0 : Fin 1) := Subsingleton.elim (α := Fin 1) _ _
  unfold linear
  pointwise
  simp only [sitofp_signExtend]
  rw [h1]

/-- The reference's run over the extended reals: its result holds `linear` of the arguments, which end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v11) = (fun i : S32x1x28672.Idx => linear (m ((c.tc : Thread nD τ).loc main_arg0)) (m ((c.tc : Thread nD τ).loc main_arg1))
          (m ((c.tc : Thread nD τ).loc main_arg2)) (m ((c.tc : Thread nD τ).loc main_arg3)) (i 0) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (ref_eq _ _ _ _), (h c).2⟩) (Cert.ReferenceIdeal.Value.run (F := Ideal) m ρ)

end Cert.Proof.RefValue

end
-- ==== Proof.lean ====
/-
  The proof of `Cert.Claim`: the kernel, its reading over the extended reals and the reference run to the end, fault on
  nothing and leave their arguments as they were, and the kernel and the reference have equal results over the extended reals.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.RefValue
public import Idealize.ShloMosaic.Lib.Quiescent

@[expose] public section

noncomputable section

namespace Cert.Proof

open Idealize.ShloMosaic Idealize.SL.Sem

/-- The kernel, in its own number formats, terminates without a fault, leaves its four arguments unchanged and ends with
    every semaphore at zero. -/
theorem frame_P : Cert.quiescent_Kernel (hKernel := Cert.Kernel.Gen.facts) :=
  fun m g _ => Cert.Kernel.Gen.frame (F := Bits) m g

/-- So does the kernel read over the extended reals. -/
theorem frame_PI : Cert.quiescent_KernelIdeal (hKernelIdeal := Cert.KernelIdeal.Gen.facts) :=
  fun m g _ => Cert.KernelIdeal.Gen.frame (F := Ideal) m g

/-- So does the reference read over the extended reals. -/
theorem frame_RI : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run (F := Ideal) m g)

/-- Started on equal arguments, the kernel and the reference end with equal results over the extended reals: both are the
    layer of `Spec.lean` of the arguments. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => fun i : Cert.KernelIdeal.S32x1x28672.Idx => KernelValue.lin m c (i 0) (i 2), KernelValue.run m g, ?_⟩
  refine (θ_run Cert.ReferenceIdeal.defs _ _).mono (fun r h c => ⟨(h c).1.trans ?_, (h c).2⟩) (RefValue.run m' g')
  obtain ⟨h0, h1, h2, h3⟩ := hagree c
  rw [h0, h1, h2, h3]

/-- Everything the certificate claims. -/
theorem claim : Cert.Claim :=
  ⟨Cert.Kernel.Gen.facts, Cert.KernelIdeal.Gen.facts, Cert.ReferenceIdeal.Gen.facts, frame_P, frame_PI, frame_RI, trivial,
    algebraic⟩

end Cert.Proof

end
